-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S16384x3 : Shape := ⟨2, ![16384, 3]⟩
abbrev S_ : Shape := ⟨0, ![]⟩
abbrev S1000000x64 : Shape := ⟨2, ![1000000, 64]⟩
abbrev S128x64 : Shape := ⟨2, ![128, 64]⟩
abbrev S128 : Shape := ⟨1, ![128]⟩

class Facts : Prop where

variable [Facts]

def fn {F : FTy → Type} [FloatOps F] (main_arg0 : FVec F S16384x3 .f32) (main_arg1 : IVec S_ 32) (main_arg2 : FVec F S1000000x64 .f32) (main_arg3 : FVec F S128x64 .f32) (main_arg4 : FVec F S128 .f32) : IVec S_ 1 :=
  let main_c : IVec S_ 32 := constantI S_ 32 0#32
  let main_v0 : IVec S_ 1 := cmpi .sge main_arg1 main_c
  let main_c_0 : IVec S_ 32 := constantI S_ 32 1000000#32
  let main_v1 : IVec S_ 1 := cmpi .slt main_arg1 main_c_0
  let main_v2 : IVec S_ 1 := andi main_v0 main_v1
  main_v2
-- ==== Kernel.lean ====
abbrev S16384x3 : Shape := ⟨2, ![16384, 3]⟩
abbrev S_ : Shape := ⟨0, ![]⟩
abbrev S1000000x64 : Shape := ⟨2, ![1000000, 64]⟩
abbrev S128x64 : Shape := ⟨2, ![128, 64]⟩
abbrev S128 : Shape := ⟨1, ![128]⟩
abbrev S1 : Shape := ⟨1, ![1]⟩
abbrev S64000000 : Shape := ⟨1, ![64000000]⟩
abbrev S1x128 : Shape := ⟨2, ![1, 128]⟩
abbrev S16384x128 : Shape := ⟨2, ![16384, 128]⟩
abbrev S2048x128 : Shape := ⟨2, ![2048, 128]⟩
abbrev S64 : Shape := ⟨1, ![64]⟩
abbrev S1x64 : Shape := ⟨2, ![1, 64]⟩

abbrev nBuf : Space → Nat
  | .hbm => 8
  | .vmem => 5
  | .smem => 1
  | _ => 0

abbrev bufTy : (tb : Table) → Fin (tcTables nBuf tb) → BufTy
  | .hbm, ⟨0, _⟩ => ⟨S16384x3, .f32⟩
  | .hbm, ⟨1, _⟩ => ⟨S_, .i32⟩
  | .hbm, ⟨2, _⟩ => ⟨S1000000x64, .f32⟩
  | .hbm, ⟨3, _⟩ => ⟨S128x64, .f32⟩
  | .hbm, ⟨4, _⟩ => ⟨S128, .f32⟩
  | .hbm, ⟨5, _⟩ => ⟨S64000000, .f32⟩
  | .hbm, ⟨6, _⟩ => ⟨S1x128, .f32⟩
  | .hbm, ⟨7, _⟩ => ⟨S16384x128, .f32⟩
  | .local _ .vmem, ⟨0, _⟩ => ⟨S128x64, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S128, .f32⟩
  | .local _ .smem, ⟨0, _⟩ => ⟨S1, .i32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (v0 : BitVec 32) : Fin 1 → Nat :=
  let c0_i32_14 : BitVec 32 := 0#32
  let v32 : BitVec 1 := Scalar.cmpi .sgt v0 c0_i32_14
  let v33 : BitVec 32 := Scalar.extui v32
  let c0_i32_15 : BitVec 32 := 0#32
  let v34 : BitVec 1 := Scalar.cmpi .slt v0 c0_i32_15
  let v35 : BitVec 32 := Scalar.extui v34
  let v36 : BitVec 32 := Scalar.subi v33 v35
  let c2_i32_13 : BitVec 32 := 2#32
  let c0_i32_16 : BitVec 32 := 0#32
  let v37 : BitVec 1 := Scalar.cmpi .sgt c2_i32_13 c0_i32_16
  let v38 : BitVec 32 := Scalar.extui v37
  let c0_i32_17 : BitVec 32 := 0#32
  let v39 : BitVec 1 := Scalar.cmpi .slt c2_i32_13 c0_i32_17
  let v40 : BitVec 32 := Scalar.extui v39
  let v41 : BitVec 32 := Scalar.subi v38 v40
  let v42 : BitVec 1 := Scalar.cmpi .ne v36 v41
  let v43 : BitVec 32 := Scalar.remsi v0 c2_i32_13
  let c0_i32_18 : BitVec 32 := 0#32
  let v44 : BitVec 1 := Scalar.cmpi .ne v43 c0_i32_18
  let v45 : BitVec 1 := Scalar.andi v42 v44
  let v31 : BitVec 32 := Scalar.divsi v0 c2_i32_13
  let c1_i32_19 : BitVec 32 := 1#32
  let v46 : BitVec 32 := Scalar.subi v31 c1_i32_19
  let v47 : BitVec 32 := Scalar.select v45 v46 v31
  let c128_i32 : BitVec 32 := 128#32
  let v48 : BitVec 32 := Scalar.muli v47 c128_i32
  ![v48.toNat]

def k0_chk1 (i : grid0.Coords) (v0 : BitVec 32) : Prop :=
  (∀ (k0_h1 : k0_cond1 i = 1#1), ∀ a, (k0_off1 v0) a + S128.size a ≤ S64000000.size a)
theorem k0_off1_inb : ∀ (i : grid0.Coords) (v0 : BitVec 32) (k0_hw1 : k0_chk1 i v0), ∀ (k0_h1 : k0_cond1 i = 1#1), ∀ a, (k0_off1 v0) a + S128.size a ≤ S64000000.size a := fun i v0 k0_hw1 k0_h1 => k0_hw1 k0_h1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x3 : Shape := ⟨2, ![16384, 3]⟩
abbrev S_ : Shape := ⟨0, ![]⟩
abbrev S1000000x64 : Shape := ⟨2, ![1000000, 64]⟩
abbrev S128x64 : Shape := ⟨2, ![128, 64]⟩
abbrev S128 : Shape := ⟨1, ![128]⟩
abbrev S1 : Shape := ⟨1, ![1]⟩
abbrev S64 : Shape := ⟨1, ![64]⟩
abbrev S64x128 : Shape := ⟨2, ![64, 128]⟩
abbrev S1x128 : Shape := ⟨2, ![1, 128]⟩
abbrev S1x1x1x128 : Shape := ⟨4, ![1, 1, 1, 128]⟩
abbrev S16384x1x1x128 : Shape := ⟨4, ![16384, 1, 1, 128]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S_, .i32⟩
  | .hbm, ⟨2, _⟩ => ⟨S1000000x64, .f32⟩
  | .hbm, ⟨3, _⟩ => ⟨S128x64, .f32⟩
  | .hbm, ⟨4, _⟩ => ⟨S128, .f32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1, .i1⟩
  | .hbm, ⟨16, _⟩ => ⟨S1, .i1⟩
  | .hbm, ⟨17, _⟩ => ⟨S_, .i1⟩
  | .hbm, ⟨18, _⟩ => ⟨S_, .i1⟩
  | .hbm, ⟨19, _⟩ => ⟨S64, .f32⟩
  | .hbm, ⟨20, _⟩ => ⟨S64, .i1⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64x128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S1x1x1x128, .f32⟩
  | .hbm, ⟨29, _⟩ => ⟨S16384x1x1x128, .f32⟩
  | .hbm, ⟨30, _⟩ => ⟨S16384x128, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_c_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c_1 : Ref sig .tc := ⟨.hbm, 11, rfl⟩
abbrev main_call0_c_2 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_c_3 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst : Ref sig .tc := ⟨.hbm, 21, rfl⟩
abbrev main_call0_v11 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩

abbrev nD : Nat := 1
abbrev τ : Topo := Topo.v7x

variable {F : FTy → Type} [FloatOps F]
-- ==== Proof.Word.lean ====
/- What the kernel computes from the index word alone: where in the flattened table the pair of rows that holds the
   indexed row begins, and which half of the pair it is. All of it is arithmetic of one 32-bit word below 1000000. -/
module

public import proofs.«01_k».proof.Kernel
public import proofs.«01_k».proof.KernelIdeal
public import Idealize.ShloMosaic.Lib.Routing.Words

@[expose] public section

namespace Cert.RowWord

open Idealize.ShloMosaic Idealize.ShloMosaic.Routing

/-- The number of rows of the table, as a bound on the index, keeps every word below far from the sign bit. -/
abbrev InTable (v : BitVec 32) : Prop := v.toNat < 1000000

/-- The index divided by two, rounding down, as the kernel spells it: the truncating quotient, less one where the signs
    of the operands differ and the remainder is not zero. In the table the index is not negative, so the quotient
    stands, and the offset is 128 times it. -/
theorem offset_eq (v : BitVec 32) (h : InTable v) : Cert.KernelIdeal.k0_off1 v 0 = v.toNat / 2 * 128 := by
  obtain ⟨n, hn, rfl⟩ : ∃ n, n < 1000000 ∧ v = BitVec.ofNat 32 n := ⟨v.toNat, h, by simp⟩
  have hq : Scalar.divsi (BitVec.ofNat 32 n) 2#32 = BitVec.ofNat 32 (n / 2) :=
    divsi_word _ (by omega) (by decide) (by decide)
  have hr : Scalar.remsi (BitVec.ofNat 32 n) 2#32 = BitVec.ofNat 32 (n % 2) :=
    remsi_word _ (by omega) (by decide) (by decide)
  have hfix : ∀ a b : BitVec 32, Scalar.select (Scalar.andi (Scalar.cmpi .ne
      (Scalar.subi (Scalar.extui (Scalar.cmpi .sgt (BitVec.ofNat 32 n) 0#32)) (Scalar.extui (Scalar.cmpi .slt (BitVec.ofNat 32 n) 0#32)))
      (Scalar.subi (Scalar.extui (Scalar.cmpi .sgt 2#32 0#32)) (Scalar.extui (Scalar.cmpi .slt 2#32 0#32))) : BitVec 1)
      (Scalar.cmpi .ne (BitVec.ofNat 32 (n % 2)) 0#32)) a b = b := by
    intro a b
    rcases Nat.eq_zero_or_pos n with rfl | hpos
    · rfl
    · have h1 : Scalar.cmpi .sgt (BitVec.ofNat 32 n) 0#32 = 1#1 := by
        simp only [Scalar.cmpi, IntOp.cmpi, BitVec.slt, BitVec.toInt, BitVec.toNat_ofNat]
        have : n % 2 ^ 32 = n := Nat.mod_eq_of_lt (by omega)
        rw [this]
        have : decide ((if 2 * (0 % 2 ^ 32) < 2 ^ 32 then ((0 % 2 ^ 32 : ℕ) : ℤ) else ((0 % 2 ^ 32 : ℕ) : ℤ) - ((2 ^ 32 : ℕ) : ℤ)) < (if 2 * n < 2 ^ 32 then (n : ℤ) else (n : ℤ) - ((2 ^ 32 : ℕ) : ℤ))) = true := by
          rw [decide_eq_true_eq, if_pos (by omega), if_pos (by omega)]; omega
        rw [this]; rfl
      have h2 : Scalar.cmpi .slt (BitVec.ofNat 32 n) 0#32 = 0#1 := by
        simp only [Scalar.cmpi, IntOp.cmpi, BitVec.slt, BitVec.toInt, BitVec.toNat_ofNat]
        have : n % 2 ^ 32 = n := Nat.mod_eq_of_lt (by omega)
        rw [this]
        have : decide ((if 2 * n < 2 ^ 32 then (n : ℤ) else (n : ℤ) - ((2 ^ 32 : ℕ) : ℤ)) < (if 2 * (0 % 2 ^ 32) < 2 ^ 32 then ((0 % 2 ^ 32 : ℕ) : ℤ) else ((0 % 2 ^ 32 : ℕ) : ℤ) - ((2 ^ 32 : ℕ) : ℤ))) = false := by
          rw [decide_eq_false_iff_not, if_pos (by omega), if_pos (by omega)]; omega
        rw [this]; rfl
      rw [h1, h2]
      generalize Scalar.cmpi .ne (BitVec.ofNat 32 (n % 2)) 0#32 = x
      rcases BitVec.eq_zero_or_eq_one x with rfl | rfl <;> rfl
  have hm : Scalar.muli (BitVec.ofNat 32 (n / 2)) 128#32 = BitVec.ofNat 32 (n / 2 * 128) := by
    show BitVec.ofNat 32 (n / 2) * 128#32 = _
    rw [BitVec.ofNat_mul_ofNat]
  show BitVec.toNat (Scalar.muli (Scalar.select _ _ _) 128#32) = _
  rw [hq, hr, hfix, hm, BitVec.toNat_ofNat, BitVec.toNat_ofNat]
  omega

/-- The 128 words that the copy reads lie inside the flattened table: the fact the kernel's body assumes. -/
theorem pair_in_table (i : Cert.KernelIdeal.grid0.Coords) (v : BitVec 32) (h : InTable v) : Cert.KernelIdeal.k0_chk1 i v := by
  intro _ a
  obtain rfl : a = 0 := Subsingleton.elim _ _
  rw [offset_eq v h]
  show v.toNat / 2 * 128 + 128 ≤ 64000000
  have : v.toNat < 1000000 := h
  omega

/-- The same of the kernel as it is compiled, whose text computes the same word. -/
theorem pair_in_table_compiled (i : Cert.Kernel.grid0.Coords) (v : BitVec 32) (h : InTable v) : Cert.Kernel.k0_chk1 i v :=
  pair_in_table i v h

/-- The index modulo two, as the kernel spells it (the truncating remainder, plus the divisor where their signs differ),
    compared with zero: the bit is set exactly where the index is even. So a selection by it takes its first choice at an
    even index and its second at an odd one. -/
theorem select_half {α : Type} (v : BitVec 32) (h : InTable v) (a b : α) :
    Scalar.select (Scalar.cmpi .eq (Scalar.select
      (Scalar.andi (Scalar.xori (Scalar.cmpi .slt (Scalar.remsi v (Scalar.select (Scalar.cmpi .eq 2#32 0#32) 1#32 2#32)) 0#32)
          (Scalar.cmpi .slt (Scalar.select (Scalar.cmpi .eq 2#32 0#32) 1#32 2#32) 0#32) : BitVec 1)
        (Scalar.cmpi .ne (Scalar.remsi v (Scalar.select (Scalar.cmpi .eq 2#32 0#32) 1#32 2#32)) 0#32))
      (Scalar.addi (Scalar.remsi v (Scalar.select (Scalar.cmpi .eq 2#32 0#32) 1#32 2#32)) (Scalar.select (Scalar.cmpi .eq 2#32 0#32) 1#32 2#32))
      (Scalar.remsi v (Scalar.select (Scalar.cmpi .eq 2#32 0#32) 1#32 2#32)) : BitVec 32) 0#32 : BitVec 1) a b
    = if v.toNat % 2 = 0 then a else b := by
  obtain ⟨n, hn, rfl⟩ : ∃ n, n < 1000000 ∧ v = BitVec.ofNat 32 n := ⟨v.toNat, h, by simp⟩
  have hd : Scalar.select (Scalar.cmpi .eq 2#32 0#32) 1#32 2#32 = 2#32 := rfl
  have hr : Scalar.remsi (BitVec.ofNat 32 n) 2#32 = BitVec.ofNat 32 (n % 2) :=
    remsi_word _ (by omega) (by decide) (by decide)
  have hv : (BitVec.ofNat 32 n).toNat % 2 = n % 2 := by rw [BitVec.toNat_ofNat]; omega
  rw [hd, hr, hv]
  rcases Nat.mod_two_eq_zero_or_one n with h0 | h1
  · rw [h0]; rfl
  · rw [h1]; rfl

end Cert.RowWord
-- ==== Proof.EntryIdeal.lean ====
/- The precondition bounds the index, and with it the side condition that the body of `KernelIdeal` assumes of the index word
   holds at every grid point. -/
module

public import proofs.«01_k».proof.Defs
public import proofs.«01_k».proof.Proof.Word
public import proofs.«01_k».proof.Proof.Gen.KernelIdeal.Frame
public import proofs.«01_k».proof.Proof.Gen.Pre_in_table
public import Idealize.ShloMosaic.Lib.StableHlo.Predicate
public import Idealize.ShloMosaic.Lib.Pipeline.ValueKit
public import Idealize.ShloMosaic.Lib.Tactic.WordOmega

@[expose] public section

set_option maxRecDepth 16384

noncomputable section

namespace Cert.KernelIdeal.Entry

open Cert.KernelIdeal Cert.KernelIdeal.Gen Cert.RowWord
open Idealize.ShloMosaic Idealize.ShloMosaic.TcCoe Idealize.ShloMosaic.StableHlo

/-- The word that the index argument holds. -/
abbrev word {F : FTy → Type} [FloatOps F] (m : (ℓ : Loc nD τ sig) → Buf (Elt F) ℓ) : BitVec 32 :=
  (m (((0 : Dev nD) : Thread nD τ).loc main_arg1) : IVec S_ 32) (fun a => a.elim0)

/-- No index map of the pipeline reads the table of prefetched words, so the pipeline asks nothing of it. -/
theorem ok {F : FTy → Type} [FloatOps F] (m : (ℓ : Loc nD τ sig) → Buf (Elt F) ℓ) : Ok m := by
  trivial

/-- The prefetched table of one word, at the launch of the pipeline: the index argument as a vector of one element. -/
theorem tbl_eq {F : FTy → Type} [FloatOps F] (m : (ℓ : Loc nD τ sig) → Buf (Elt F) ℓ) (x : S1.Idx) :
    (tbl m 0 : IVec S1 32) x = word m := by
  unfold tbl
  show (V m 0 main_v0 : IVec S1 32) x = word m
  entry_read
  exact congrArg (m (((0 : Dev nD) : Thread nD τ).loc main_arg1) : IVec S_ 32) (funext fun a : Fin 0 => a.elim0)

/-- The word that the body loads at every grid point is the index argument. -/
theorem loaded_word {F : FTy → Type} [FloatOps F] (m : (ℓ : Loc nD τ sig) → Buf (Elt F) ℓ) :
    tbM0_0.view.readAt (Elt F) (Rect.unit (s := S1) ![0] S1.size inb_S1_S1_0).toLoadRect (tbl m 0)
      (Shape.Idx.first (numel1_S1.symm ▸ Nat.one_pos)) = word m :=
  (View.readAt_apply (v := tbM0_0.view) (r := (Rect.unit (s := S1) ![0] S1.size inb_S1_S1_0).toLoadRect) (f := tbl m 0)
    (x := Shape.Idx.first (numel1_S1.symm ▸ Nat.one_pos))).trans (tbl_eq m _)

/-- The precondition, read at its one word: the index lies in the table. -/
theorem word_in_table (m : (ℓ : Loc nD τ sig) → Buf (Elt Ideal) ℓ) (h : Cert.Pre_KernelIdeal m) : InTable (word m) := by
  have e := congrFun (h 0) (fun a => a.elim0)
  simp only [Pre_in_table.fn, andi, cmpi, constantI] at e
  change IntOp.andi (IntOp.cmpi .sge (word m) 0#32) (IntOp.cmpi .slt (word m) 1000000#32) = 1#1 at e
  generalize word m = v at e ⊢
  word_omega

/-- So the side condition assumed by the body holds at every point. -/
theorem hyps (m : (ℓ : Loc nD τ sig) → Buf (Elt Ideal) ℓ) (h : Cert.Pre_KernelIdeal m) : Hyps m (ok m) := by
  intro c t
  rw [loaded_word]
  exact pair_in_table _ _ (word_in_table m h)

end Cert.KernelIdeal.Entry

end
-- ==== Proof.Block.lean ====
/- What one grid point stores, element by element, given the index word, the pair of rows in scratch, the weights and
   the bias. -/
module

public import proofs.«01_k».proof.Proof.Word
public import proofs.«01_k».proof.Proof.Gen.KernelIdeal.Skeleton
public import Idealize.ShloMosaic.Lib.Pipeline.ValueKit

@[expose] public section

set_option maxRecDepth 16384

noncomputable section

namespace Cert.KernelIdeal.Block

open Cert.KernelIdeal Cert.KernelIdeal.Gen Cert.RowWord
open Idealize.ShloMosaic

/-- The block a point stores holds, in every row and in column `c`, the product of row `c` of the weights with the half
    of the scratch that the index names, plus entry `c` of the bias. -/
theorem stored (v : BitVec 32) (hv : InTable v) (pair : FVec Ideal S128 .f32) (W : FVec Ideal S128x64 .f32)
    (b : FVec Ideal S1x128 .f32) (y : S2048x128.Idx) :
    k0_pay1 (F := Ideal) v pair W b y
      = (∑ k : Fin 64, W (ix2 (y 1) k) * pair (ix1 ⟨v.toNat % 2 * 64 + k, by omega⟩)) + b (ix2 0 (y 1)) := by
  pointwise [k0_pay1]
  simp only [select_half v hv]
  refine congrArg (· + b (ix2 0 (y 1))) (Finset.sum_congr rfl fun k _ => congrArg (W (ix2 (y 1) k) * ·) ?_)
  rcases Nat.mod_two_eq_zero_or_one v.toNat with h | h
  · rw [if_pos h]
    exact congrArg pair (congrArg ix1 (Fin.ext (by simp [h])))
  · rw [if_neg (by omega)]
    exact congrArg pair (congrArg ix1 (Fin.ext (by simp [h])))

end Cert.KernelIdeal.Block

end
-- ==== Proof.Point.lean ====
/- What one run of the body leaves: in scratch, where it copies, the pair of rows of the flattened table that holds the
   indexed row; in the output block, the payload over the weights, the bias and the scratch. -/
module

public import proofs.«01_k».proof.Proof.Word
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Cert.KernelIdeal Cert.KernelIdeal.Gen Cert.RowWord
open Idealize.ShloMosaic Idealize.ShloMosaic.TcCoe

variable (c : Dev nD) (i : grid0.Coords) (arg3 : Memref sig .tc .vmem S128x64 .f32) (harg3 : arg3.IsWhole)
  (arg4 : Memref sig .tc .vmem S1x128 .f32) (harg4 : arg4.IsWhole) (arg5 : Memref sig .tc .vmem S2048x128 .f32) (harg5 : arg5.IsWhole)
  (x0 : Vec Ideal S128x64 .f32) (x1 : Vec Ideal S1x128 .f32) (xt0 : TbBuf0 (F := Ideal) c tbM0_0) (fh0 : HbBuf0 (F := Ideal) c hbM0_0)

/-- The word the body loads from the prefetched table. -/
abbrev loaded (xt0 : TbBuf0 (F := Ideal) c tbM0_0) : BitVec 32 :=
  tbM0_0.view.readAt (Elt Ideal) (Rect.unit (s := S1) ![0] S1.size inb_S1_S1_0).toLoadRect xt0 (Shape.Idx.first (numel1_S1.symm ▸ Nat.one_pos))

/-- The pair of rows: the 128 words of the flattened table from the offset on. -/
def pair (T : FVec Ideal S64000000 .f32) (v : BitVec 32) (hv : InTable v) : FVec Ideal S128 .f32 :=
  fun x => T (ix1 ⟨v.toNat / 2 * 128 + x 0, by have : v.toNat < 1000000 := hv; have : (x 0).val < 128 := (x 0).isLt; omega⟩)

/-- One write of a whole vector, read back, is the vector. -/
theorem canon_whole (w : FVec Ideal S128 .f32) :
    View.canon (Val := Elt Ideal) (e := .f32) [⟨Rect.whole S128, w⟩] = w := by
  funext x
  have h := View.canon_cons_emb (Val := Elt Ideal) (e := .f32) (Rect.whole S128) w [] x
  have he : (Rect.whole S128).emb x = x := by
    refine funext fun a => Fin.ext ?_
    show 0 + 1 * (x a).val = (x a).val
    omega
  rwa [he] at h

/-- The 128 words that the copy reads, from the printed offset on, are the pair of rows. -/
theorem source_read (v : BitVec 32) (hv : InTable v) (off : Fin 1 → Nat) (hoff : off = k0_off1 v)
    (inb : ∀ a, off a + S128.size a ≤ S64000000.size a) (T : FVec Ideal S64000000 .f32) :
    View.read (Elt Ideal) ((View.whole main_v1).slice (Rect.unit (s := S64000000) off S128.size inb)) T = pair T v hv := by
  subst hoff
  funext x
  show T _ = T _
  refine congrArg T (funext fun (a : Fin 1) => Fin.ext ?_)
  obtain rfl : a = 0 := Subsingleton.elim _ _
  show k0_off1 v 0 + 1 * (x 0).val = v.toNat / 2 * 128 + (x 0).val
  rw [offset_eq v hv]; omega

/-- The loaded word, as a read of the table of one word. -/
theorem loaded_read (h : 0 < S1.numel) :
    View.read (Elt Ideal) (View.whole main_v0) xt0 (Shape.Idx.first h) = loaded c xt0 := by
  rw [loaded, View.readAt_apply]
  refine congrArg xt0 (funext fun (a : Fin 1) => Fin.ext ?_)
  obtain rfl : a = 0 := Subsingleton.elim _ _
  rfl

/-- A point that copies leaves the pair of rows in scratch. -/
theorem scratch_copied (hc0 : cond0_0 i) (k0_hw1 : k0_chk1 i (loaded c xt0)) (v : BitVec 32)
    (e : loaded c xt0 = v) (hv : InTable v) :
    sout0_A_0 c i arg3 harg3 arg4 harg4 arg5 harg5 scM0_0 (Memref.isWhole_whole _) hc0 x0 x1 xt0 fh0 k0_hw1
      = pair fh0 v hv := by
  subst e
  unfold sout0_A_0
  dsimp only [kernelRun0_A]
  rw [View.read_writes_junk_eq_canon]
  refine (canon_whole _).trans ?_
  exact source_read (loaded c xt0) hv _ rfl _ fh0

/-- What is copied whole into scratch and loaded whole from it is what was copied. -/
theorem load_copied (w : FVec Ideal S128 .f32) :
    (View.whole cc0_scratch0 : View sig .tc .vmem S128 .f32).readCov (Val := Elt Ideal) [⟨Rect.whole S128, w⟩]
      (Rect.unit (s := S128) ![0] ![128] inb_S128_S128_0).toLoadRect = w := by
  rw [View.readCov_eq_canon', canon_whole]
  refine funext fun j => congrArg w (funext fun (a : Fin 1) => Fin.ext ?_)
  obtain rfl : a = 0 := Subsingleton.elim _ _
  show 0 + 1 * (j 0).val = (j 0).val
  omega

/-- A point that copies stores the payload over the pair of rows. -/
theorem block_copied (hc0 : cond0_0 i) (k0_hw1 : k0_chk1 i (loaded c xt0)) (v : BitVec 32)
    (e : loaded c xt0 = v) (hv : InTable v) :
    out0_A_2 c i arg3 harg3 arg4 harg4 arg5 harg5 scM0_0 (Memref.isWhole_whole _) hc0 x0 x1 xt0 fh0 k0_hw1
      = k0_pay1 v (pair fh0 v hv) x0 x1 := by
  subst e
  frame_out
  rw [loaded_read c xt0, load_copied]
  refine congrArg (fun p => k0_pay1 (loaded c xt0) p x0 x1) ?_
  refine source_read (loaded c xt0) hv _ (congrArg k0_off1 ?_) _ fh0
  rw [loaded, View.readAt_apply]

/-- A point that does not copy stores the payload over what the scratch holds. -/
theorem block_held (hc0 : ¬cond0_0 i) (xs0 : Vec Ideal S128 .f32) (k0_hw1 : k0_chk1 i (loaded c xt0)) (v : BitVec 32)
    (e : loaded c xt0 = v) :
    out0_B_2 c i arg3 harg3 arg4 harg4 arg5 harg5 scM0_0 (Memref.isWhole_whole _) hc0 x0 x1 xt0 xs0 fh0 k0_hw1
      = k0_pay1 v xs0 x0 x1 := by
  subst e
  frame_out
  rw [read_unread_whole, loaded_read c xt0]

end Cert.KernelIdeal.Point

end
-- ==== Proof.Array.lean ====
/- What the result array of the kernel holds after the run: every grid point writes its own band of rows, and each
   band holds in column `c` the product of row `c` of the weights with the indexed row of the table, plus the bias. -/
module

public import proofs.«01_k».proof.Proof.Block
public import proofs.«01_k».proof.Proof.Point
public import proofs.«01_k».proof.Proof.EntryIdeal

@[expose] public section

set_option maxRecDepth 16384

noncomputable section

namespace Cert.KernelIdeal.Array

open Cert.KernelIdeal Cert.KernelIdeal.Gen Cert.RowWord Cert.KernelIdeal.Entry Cert.KernelIdeal.Point
open Idealize.ShloMosaic Idealize.ShloMosaic.TcCoe
open Idealize.ShloMosaic.Pipeline (Dat)

/-- The result: in every row and in column `c`, the inner product of row `c` of the weights `W` with row `r` of the
    table `T`, plus entry `c` of the bias `b`. -/
def result (T : FVec Ideal S1000000x64 .f32) (W : FVec Ideal S128x64 .f32) (b : FVec Ideal S128 .f32) (r : Fin 1000000) :
    FVec Ideal S16384x128 .f32 :=
  fun i => (∑ k : Fin 64, W (ix2 (i 1) k) * T (ix2 r k)) + b (ix1 (i 1))

variable (m : (ℓ : Loc nD τ sig) → Buf (Elt Ideal) ℓ)

/-- The flattened table as the region finds it, at the element that column `k` of row `r` becomes. -/
theorem flat_table (c : Dev nD) (r : Fin 1000000) (k : Fin 64) (h : r.val * 64 + k.val < 64000000) :
    (V m c main_v1 : FVec Ideal S64000000 .f32) (ix1 ⟨r.val * 64 + k.val, h⟩)
      = (m ((c : Thread nD τ).loc main_arg2) : FVec Ideal S1000000x64 .f32) (ix2 r k) := by
  entry_read
  pointwise

/-- The half of the pair of rows that the index names is the indexed row of the table. -/
theorem half_of_pair (c : Dev nD) (v : BitVec 32) (hv : InTable v) (k : Fin 64) :
    pair (V m c main_v1) v hv (ix1 ⟨v.toNat % 2 * 64 + k, by omega⟩)
      = (m ((c : Thread nD τ).loc main_arg2) : FVec Ideal S1000000x64 .f32) (ix2 ⟨v.toNat, hv⟩ k) := by
  have hv' : v.toNat < 1000000 := hv
  refine Eq.trans ?_ (flat_table m c ⟨v.toNat, hv⟩ k (by show v.toNat * 64 + k.val < 64000000; omega))
  unfold pair
  refine congrArg (V m c main_v1 : FVec Ideal S64000000 .f32) (congrArg ix1 (Fin.ext ?_))
  show v.toNat / 2 * 128 + (v.toNat % 2 * 64 + k.val) = v.toNat * 64 + k.val
  omega

variable (h : Cert.Pre_KernelIdeal m)
include h

/-- The scratch holds the pair of rows after every point: the first copies it, no later one changes it. -/
theorem scratch (c : Dev nD) (n : ℕ) (hn : n < (cfgM m (ok m)).N) :
    (outsAt0 m (ok m) (hyps m h) c n hn).2 = pair (V m c main_v1) (word m) (word_in_table m h) := by
  have copied (t : Fin (cfgM m (ok m)).N) (h0 : t.val % 8 = 0) :
      (outsAt0 m (ok m) (hyps m h) c t.val t.isLt).2 = pair (V m c main_v1) (word m) (word_in_table m h) := by
    rw [outsAt0_A m (ok m) (hyps m h) c t h0]
    exact (scratch_copied c (grid0.coords t) (ms0_0 m (ok m) t) (hs0_0 m (ok m) t) (ms0_1 m (ok m) t) (hs0_1 m (ok m) t) (ms0_2 m (ok m) t) (hs0_2 m (ok m) t)
      (iblk m (ok m) c 0 t) (iblk m (ok m) c 1 t) (tbl m 0) (V m c main_v1)
      ((hcond0_0 t).mpr h0) (Hyps.c0 (hyps m h) c t) (word m) (loaded_word m) (word_in_table m h))
  induction n with
  | zero => exact copied ⟨0, hn⟩ rfl
  | succ n ih =>
    by_cases h0 : (n + 1) % 8 = 0
    · exact copied ⟨n + 1, hn⟩ h0
    · rw [outsAt0_B m (ok m) (hyps m h) c ⟨n + 1, hn⟩ h0]
      dsimp only
      unfold sout0_B_0
      exact ih _

/-- The block that the body leaves at a point is the payload over the weights' and the bias's block and the pair of
    rows. -/
theorem block (c : Dev nD) (t : Fin (cfgM m (ok m)).N) :
    (outsAt0 m (ok m) (hyps m h) c t.val t.isLt).1
      = k0_pay1 (word m) (pair (V m c main_v1) (word m) (word_in_table m h)) (iblk m (ok m) c 0 t) (iblk m (ok m) c 1 t) := by
  by_cases h0 : t.val % 8 = 0
  · rw [outsAt0_A m (ok m) (hyps m h) c t h0]
    dsimp only
    generalize word_in_table m h = hw
    refine (block_copied c (grid0.coords t) (ms0_0 m (ok m) t) (hs0_0 m (ok m) t) (ms0_1 m (ok m) t) (hs0_1 m (ok m) t) (ms0_2 m (ok m) t) (hs0_2 m (ok m) t)
      (iblk m (ok m) c 0 t) (iblk m (ok m) c 1 t) (tbl m 0) (V m c main_v1)
      ((hcond0_0 t).mpr h0) (Hyps.c0 (hyps m h) c t) (word m) (loaded_word m) hw).trans ?_
    rfl
  · rw [outsAt0_B m (ok m) (hyps m h) c t h0, scratch m h c]
    dsimp only
    generalize pair (V m c main_v1) (word m) (word_in_table m h) = p
    refine (block_held c (grid0.coords t) (ms0_0 m (ok m) t) (hs0_0 m (ok m) t) (ms0_1 m (ok m) t) (hs0_1 m (ok m) t) (ms0_2 m (ok m) t) (hs0_2 m (ok m) t)
      (iblk m (ok m) c 0 t) (iblk m (ok m) c 1 t) (tbl m 0) (V m c main_v1)
      (fun h => h0 ((hcond0_0 t).mp h)) p (Hyps.c0 (hyps m h) c t) (word m) (loaded_word m)).trans ?_
    rfl

omit h in
/-- The block of rows that each window takes at a point: the weights and the bias whole, the result's band by band. -/
theorem index_maps : ∀ t : Fin grid0.N, cc0_transform_1 (grid0.coords t) = ![0, 0] ∧ cc0_transform_2 (grid0.coords t) = ![0, 0]
    ∧ cc0_transform_3 (grid0.coords t) = ![t.val, 0] := by
  decide +kernel

omit h in
/-- The bands of the eight points cover the result. -/
theorem covers : ((cfgM m (ok m)).win 2).Covers := by
  refine ⟨fun (a : Fin 2) => ?_, fun β => ?_⟩
  · revert a; exact (by decide : ∀ a : Fin 2, 0 < S2048x128.size a)
  · have hβ : (β (0 : Fin 2)).val < 8 :=
      lt_of_lt_of_eq (β (0 : Fin 2)).isLt (show (16384 + 2048 - 1) / 2048 = 8 by decide)
    have hβ1 : (β (1 : Fin 2)).val < 1 :=
      lt_of_lt_of_eq (β (1 : Fin 2)).isLt (show (128 + 128 - 1) / 128 = 1 by decide)
    refine ⟨⟨(β (0 : Fin 2)).val, by rw [N_0]; exact hβ⟩, flush0_2 _ _, fun (a : Fin 2) => ⟨?_, ?_⟩⟩
    · refine (congrFun (index_maps ⟨(β (0 : Fin 2)).val, by rw [N_0]; exact hβ⟩).2.2 a).trans ?_
      match a with
      | 0 => rfl
      | 1 => show 0 = (β (1 : Fin 2)).val; omega
    · exact Or.inl rfl

omit h in
/-- The weights' block at every point is the whole array of weights. -/
theorem weights_block (c : Dev nD) (t : Fin (cfgM m (ok m)).N) (q : Fin 128) (k : Fin 64) :
    (iblk m (ok m) c 0 t : FVec Ideal S128x64 .f32) (ix2 q k)
      = (m ((c : Thread nD τ).loc main_arg3) : FVec Ideal S128x64 .f32) (ix2 q k) := by
  have e (a : Fin 2) : cc0_transform_1 (grid0.coords t) a = 0 :=
    (congrFun (index_maps t).1 a).trans (by revert a; decide)
  show (V m c main_arg3 : FVec Ideal S128x64 .f32) _ = _
  refine (congrArg (V m c main_arg3 : FVec Ideal S128x64 .f32) (funext fun (a : Fin 2) => Fin.ext ?_)).trans (?_ : (V m c main_arg3 : FVec Ideal S128x64 .f32) (ix2 q k) = _)
  · refine (((cfgM m (ok m)).win 0).rect_emb_val_of_index_zero t a (e a) (ix2 q k)).trans ?_
    rfl
  · entry_read
    rfl

omit h in
/-- The bias's block at every point is the whole bias, as one row. -/
theorem bias_block (c : Dev nD) (t : Fin (cfgM m (ok m)).N) (q : Fin 128) :
    (iblk m (ok m) c 1 t : FVec Ideal S1x128 .f32) (ix2 0 q)
      = (m ((c : Thread nD τ).loc main_arg4) : FVec Ideal S128 .f32) (ix1 q) := by
  have e (a : Fin 2) : cc0_transform_2 (grid0.coords t) a = 0 :=
    (congrFun (index_maps t).2.1 a).trans (by revert a; decide)
  show (V m c main_v2 : FVec Ideal S1x128 .f32) _ = _
  refine (congrArg (V m c main_v2 : FVec Ideal S1x128 .f32) (funext fun (a : Fin 2) => Fin.ext ?_)).trans (?_ : (V m c main_v2 : FVec Ideal S1x128 .f32) (ix2 0 q) = _)
  · refine (((cfgM m (ok m)).win 1).rect_emb_val_of_index_zero t a (e a) (ix2 0 q)).trans ?_
    rfl
  · entry_read
    pointwise

/-- The result array after the run. -/
theorem final (c : Dev nD) : (dats m (ok m) (hyps m h) 0 c).arrAt 2 (cfgM m (ok m)).N
    = result (m ((c : Thread nD τ).loc main_arg2)) (m ((c : Thread nD τ).loc main_arg3)) (m ((c : Thread nD τ).loc main_arg4))
        ⟨(word m).toNat, word_in_table m h⟩ := by
  refine (dats m (ok m) (hyps m h) 0 c).arrAt_eq_of_covers 2 _ (covers m) fun t hf y => ?_
  blk_simp
  rw [after0_2, block m h c t]
  refine (Block.stored (word m) (word_in_table m h) _ (iblk m (ok m) c 0 t) (iblk m (ok m) c 1 t) y).trans ?_
  have ey : (((cfgM m (ok m)).win 2).blk t).view.emb y (1 : Fin 2) = y (1 : Fin 2) := Fin.ext
    (((cfgM m (ok m)).win 2).rect_emb_val_of_index_zero t (1 : Fin 2) (congrFun (index_maps t).2.2 1) y)
  unfold result
  refine congrArg₂ (· + ·) (Finset.sum_congr rfl fun k _ => ?_) ?_
  · refine congrArg₂ (· * ·) ((weights_block m c t (y (1 : Fin 2)) k).trans ?_) (half_of_pair m c (word m) (word_in_table m h) k)
    rw [ey]
  · refine (bias_block m c t (y (1 : Fin 2))).trans ?_
    rw [ey]

end Cert.KernelIdeal.Array

end
-- ==== Proof.Reference.lean ====
/- What the reference computes, element by element, for an index in the table: the wrapped index is the index, the bounds
   test passes, the gather reads the indexed row, and the product with the weights plus the bias fills every row. -/
module

public import proofs.«01_k».proof.Proof.Word
public import proofs.«01_k».proof.Proof.Gen.ReferenceIdeal
public import Idealize.ShloMosaic.Lib.StableHlo.Predicate
public import Idealize.ShloMosaic.Lib.Pipeline.ValueKit
public import Idealize.ShloMosaic.Lib.Tactic.WordOmega

@[expose] public section

set_option maxRecDepth 16384

noncomputable section

namespace Cert.ReferenceIdeal.Row

open Cert.ReferenceIdeal Cert.ReferenceIdeal.Gen Cert.RowWord
open Idealize.ShloMosaic

variable (x : IVec S_ 32) (T : FVec Ideal S1000000x64 .f32) (W : FVec Ideal S128x64 .f32) (b : FVec Ideal S128 .f32)

/-- The index as the gather takes it: a negative one counts from the end of the table. -/
def start : IVec S1 32 :=
  broadcastInDim S1 ![] bcast_S_S1 (select (cmpi .slt x (constantI S_ 32 0#32)) (addi x (constantI S_ 32 1000000#32)) x)

/-- Whether the index lies in the table. -/
def inBounds : IVec S_ 1 :=
  Host.reduce IntOp.andi (andi (cmpi .sge (start x) (broadcastInDim S1 ![] bcast_S_S1 (constantI S_ 32 0#32)))
    (cmpi .sle (start x) (constantI S1 32 999999#32))) (constantI S_ 1 1#1) reducesTo_S1_S_d0 h_S_

/-- The row of the table that the reference takes, a row of NaN where the index lies outside. -/
def row : FVec Ideal S64 .f32 :=
  select (broadcastInDim S64 ![] bcast_S_S64 (inBounds x)) (Host.gather gather_S1000000x64_S1_S64_0_0_n_n_0_0_164 T (start x))
    (broadcastInDim S64 ![] bcast_S_S64 (constant S_ .f32 0x7FC00000#32))

/-- The whole reference. -/
def whole : FVec Ideal S16384x128 .f32 :=
  shapeCast _ (broadcastInDim S16384x1x1x128 ![0, 1, 2, 3] bcast_S1x1x1x128_S16384x1x1x128_0_1_2_3
    (shapeCast _ (shapeCast _ (addf (Host.dotGeneral dot_S64_S64x128_S128_0_0_n_1_n_n none (row x T)
      (transpose S64x128 [1, 0] W transposes_S128x64_S64x128_1_0)) b) shapeCasts_S128_S1x128) shapeCasts_S1x128_S1x1x1x128))
    shapeCasts_S16384x1x1x128_S16384x128

/-- In the table, the wrapped index is the index. -/
theorem start_eq (v : BitVec 32) (hx : ∀ j, x j = v) (hv : InTable v) (p : S1.Idx) : start x p = v := by
  have hc : IntOp.cmpi .slt v 0#32 ≠ 1#1 := by
    have hv' : v.toNat < 1000000 := hv
    rw [Ne, StableHlo.Predicate.slt_iff_toNat (by omega) (by decide)]
    simp
  show (if IntOp.cmpi .slt (x _) 0#32 = 1#1 then IntOp.addi (x _) 1000000#32 else x _) = v
  rw [hx, if_neg hc]

/-- In the table, the bounds test passes. -/
theorem inBounds_eq (v : BitVec 32) (hx : ∀ j, x j = v) (hv : InTable v) (j : S_.Idx) : inBounds x j = 1#1 := by
  have hv' : v.toNat < 1000000 := hv
  have h0 : IntOp.cmpi .sge v 0#32 = 1#1 := (StableHlo.Predicate.sge_iff_toNat (by omega) (by decide)).mpr (by simp)
  have h1 : IntOp.cmpi .sle v 999999#32 = 1#1 := (StableHlo.Predicate.sle_iff_toNat (by omega) (by decide)).mpr (by simp; omega)
  have hs : andi (cmpi .sge (start x) (broadcastInDim S1 ![] bcast_S_S1 (constantI S_ 32 0#32)))
      (cmpi .sle (start x) (constantI S1 32 999999#32)) = fun _ => 1#1 := by
    funext p
    show IntOp.andi (IntOp.cmpi .sge (start x p) 0#32) (IntOp.cmpi .sle (start x p) 999999#32) = 1#1
    rw [start_eq x v hx hv, h0, h1]
    rfl
  unfold inBounds
  rw [hs]
  rfl

/-- The gather reads, at column `k`, the row that its start index names. -/
theorem gather_row (s : IVec S1 32) (v : BitVec 32) (hs : ∀ p, s p = v) (hv : InTable v) (k : Fin 64) :
    Host.gather gather_S1000000x64_S1_S64_0_0_n_n_0_0_164 T s (ix1 k) = T (ix2 ⟨v.toNat, hv⟩ k) := by
  have hv' : v.toNat < 1000000 := hv
  unfold Host.gather
  refine congrArg T (funext fun (a : Fin 2) => Fin.ext ?_)
  match a with
  | 0 =>
    show GatherDims.start _ _ s 0 + GatherDims.batchCoord _ _ 0 + GatherDims.offCoord _ _ 0 = v.toNat
    rw [GatherDims.batchCoord_eq_zero _ _ _ (by decide), GatherDims.offCoord_eq_zero _ _ _ (by decide)]
    unfold GatherDims.start
    rw [dif_pos (by decide), hs, StableHlo.Predicate.toInt_eq_toNat_of_lt (by omega)]
    show min v.toNat 999999 + 0 + 0 = v.toNat
    omega
  | 1 =>
    show GatherDims.start _ _ s 1 + GatherDims.batchCoord _ _ 1 + GatherDims.offCoord _ _ 1 = k.val
    rw [GatherDims.batchCoord_eq_zero _ _ _ (by decide)]
    unfold GatherDims.start
    rw [dif_neg (by decide)]
    simp only [Nat.zero_add]
    rfl

/-- So the row taken is the indexed row of the table. -/
theorem row_eq (v : BitVec 32) (hx : ∀ j, x j = v) (hv : InTable v) (k : Fin 64) :
    row x T (ix1 k) = T (ix2 ⟨v.toNat, hv⟩ k) := by
  refine Eq.trans ?_ (gather_row T (start x) v (start_eq x v hx hv) hv k)
  show (if inBounds x _ = 1#1 then _ else _) = _
  rw [inBounds_eq x v hx hv, if_pos rfl]

/-- The reference's element at row `r` and column `c`: the inner product of the indexed row with row `c` of the weights,
    plus entry `c` of the bias. -/
theorem whole_eq (v : BitVec 32) (hx : ∀ j, x j = v) (hv : InTable v) (i : S16384x128.Idx) :
    whole x T W b i = (∑ k : Fin 64, T (ix2 ⟨v.toNat, hv⟩ k) * W (ix2 (i 1) k)) + b (ix1 (i 1)) := by
  unfold whole
  rw [ValueIdx.eq_ix2 i]
  pointwise
  simp only [row_eq x T v hx hv]

end Cert.ReferenceIdeal.Row

end
-- ==== Proof.Equation.lean ====
/- The reference's result is the kernel's: the two write the same sum of products, the factors in the other order. -/
module

public import proofs.«01_k».proof.Proof.Reference
public import proofs.«01_k».proof.Proof.Array

@[expose] public section

noncomputable section

namespace Cert.Equation

open Cert.RowWord Cert.KernelIdeal
open Idealize.ShloMosaic

/-- The reference over an index that lies in the table is the array that the kernel leaves. -/
theorem whole_eq_result (x : IVec S_ 32) (T : FVec Ideal S1000000x64 .f32) (W : FVec Ideal S128x64 .f32)
    (b : FVec Ideal S128 .f32) (hv : InTable (x fun a => a.elim0)) :
    Cert.ReferenceIdeal.Row.whole x T W b = Array.result T W b ⟨(x fun a => a.elim0).toNat, hv⟩ := by
  funext i
  refine (Cert.ReferenceIdeal.Row.whole_eq x T W b _ (fun j => congrArg x (funext fun a : Fin 0 => a.elim0)) hv i).trans ?_
  exact congrArg (· + b (ix1 (i 1))) (Finset.sum_congr rfl fun k _ => mul_comm _ _)

end Cert.Equation

end
-- ==== Proof.lean ====
/- The claims, assembled: the two programs' frames from the printed frame runs (the precondition discharges the side
   condition on the index word), the reference's from its composed run, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_table
public import proofs.«01_k».proof.Proof.EntryKernel
public import proofs.«01_k».proof.Proof.EntryIdeal
public import proofs.«01_k».proof.Proof.Array
public import proofs.«01_k».proof.Proof.Equation
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem

/-- The kernel runs, leaves its arguments, and ends with every counter at zero. -/
theorem frame_kernel : Cert.quiescent_Kernel :=
  fun m g h => Cert.Kernel.Gen.frame m g (Cert.Kernel.Entry.ok m) (Cert.Kernel.Entry.hyps m h)

/-- The same of the kernel over exact arithmetic. -/
theorem frame_ideal : Cert.quiescent_KernelIdeal :=
  fun m g h => Cert.KernelIdeal.Gen.frame m g (Cert.KernelIdeal.Entry.ok m) (Cert.KernelIdeal.Entry.hyps m h)

/-- The reference runs from every memory, leaves its arguments, and has no counter. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- In particular from one whose index lies in the table. -/
theorem frame_reference_in_table : Cert.quiescent_ReferenceIdeal_pre_in_table := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From memories with the same arguments the kernel and the reference end with the same result. -/
theorem algebraic : Cert.algebraic_KernelIdeal_ReferenceIdeal := by
  intro m g m' g' hpre hagree
  refine ⟨fun c => Cert.KernelIdeal.Array.result (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    ⟨(Cert.KernelIdeal.Entry.word m).toNat, Cert.KernelIdeal.Entry.word_in_table m hpre⟩, ?_, ?_⟩
  · exact θ_run_mono (θ_run_and
        (Cert.KernelIdeal.Gen.run_main m g (Cert.KernelIdeal.Entry.ok m) (Cert.KernelIdeal.Entry.hyps m hpre))
        (Cert.KernelIdeal.Gen.unchanged m g (Cert.KernelIdeal.Entry.ok m) (Cert.KernelIdeal.Entry.hyps m hpre)))
      fun r h c => ⟨((h.1 c).1 2).trans (Cert.KernelIdeal.Array.final m hpre c), h.2 c⟩
  · refine θ_run_mono (Cert.ReferenceIdeal.Value.run (F := Ideal) m' g') fun r h c => ⟨(h c).1.trans ?_, (h c).2⟩
    obtain ⟨-, e1, e2, e3, e4⟩ := hagree c
    rw [e1, e2, e3, e4]
    obtain rfl : c = 0 := Subsingleton.elim _ _
    exact Cert.Equation.whole_eq_result _ _ _ _ (Cert.KernelIdeal.Entry.word_in_table m hpre)

/-- All the claims together. -/
theorem claim : Cert.Claim := ⟨Cert.Kernel.Gen.facts, Cert.KernelIdeal.Gen.facts, Cert.ReferenceIdeal.Gen.facts, Cert.Pre_in_table.Gen.facts,
  frame_kernel, frame_ideal, frame_reference, frame_reference_in_table, trivial, algebraic⟩

end Cert.Proof

end
